-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x512x512 : Shape := ⟨4, ![16, 1, 512, 512]⟩
abbrev S256x64 : Shape := ⟨2, ![256, 64]⟩
abbrev S64 : Shape := ⟨1, ![64]⟩
abbrev S64x32 : Shape := ⟨2, ![64, 32]⟩
abbrev S32 : Shape := ⟨1, ![32]⟩
abbrev S16x64x8x64x8 : Shape := ⟨5, ![16, 64, 8, 64, 8]⟩
abbrev S16x64x8x8x64 : Shape := ⟨5, ![16, 64, 8, 8, 64]⟩
abbrev S16x64x64x64 : Shape := ⟨4, ![16, 64, 64, 64]⟩
abbrev S16x16x64 : Shape := ⟨3, ![16, 16, 64]⟩
abbrev S8x8x64 : Shape := ⟨3, ![8, 8, 64]⟩
abbrev S64x64 : Shape := ⟨2, ![64, 64]⟩
abbrev S64x256 : Shape := ⟨2, ![64, 256]⟩
abbrev S1x64 : Shape := ⟨2, ![1, 64]⟩
abbrev S1x32 : Shape := ⟨2, ![1, 32]⟩
abbrev S16x32x4096 : Shape := ⟨3, ![16, 32, 4096]⟩
abbrev S1x64x64x64 : Shape := ⟨4, ![1, 64, 64, 64]⟩
abbrev S1x32x4096 : Shape := ⟨3, ![1, 32, 4096]⟩
abbrev S4096x256 : Shape := ⟨2, ![4096, 256]⟩
abbrev S1x1x64x64 : Shape := ⟨4, ![1, 1, 64, 64]⟩
abbrev S4096x64 : Shape := ⟨2, ![4096, 64]⟩
abbrev S4032x64 : Shape := ⟨2, ![4032, 64]⟩
abbrev S4095x64 : Shape := ⟨2, ![4095, 64]⟩
abbrev S4096x32 : Shape := ⟨2, ![4096, 32]⟩
abbrev S32x4096 : Shape := ⟨2, ![32, 4096]⟩
abbrev S16x32x64x64 : Shape := ⟨4, ![16, 32, 64, 64]⟩
abbrev S16x32x63x63 : Shape := ⟨4, ![16, 32, 63, 63]⟩
abbrev S16x63x63x32 : Shape := ⟨4, ![16, 63, 63, 32]⟩
abbrev S63504x32 : Shape := ⟨2, ![63504, 32]⟩

abbrev nBuf : Space → Nat
  | .hbm => 28
  | .vmem => 9
  | .smem => 0
  | _ => 0

abbrev bufTy : (tb : Table) → Fin (tcTables nBuf tb) → BufTy
  | .hbm, ⟨0, _⟩ => ⟨S16x1x512x512, .f32⟩
  | .hbm, ⟨1, _⟩ => ⟨S256x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S16x1x512x512, .bf16⟩
  | .hbm, ⟨6, _⟩ => ⟨S16x64x8x64x8, .bf16⟩
  | .hbm, ⟨7, _⟩ => ⟨S16x64x8x8x64, .bf16⟩
  | .hbm, ⟨8, _⟩ => ⟨S16x64x64x64, .bf16⟩
  | .hbm, ⟨9, _⟩ => ⟨S16x16x64, .f32⟩
  | .hbm, ⟨10, _⟩ => ⟨S8x8x64, .f32⟩
  | .hbm, ⟨11, _⟩ => ⟨S64x64, .f32⟩
  | .hbm, ⟨12, _⟩ => ⟨S8x8x64, .f32⟩
  | .hbm, ⟨13, _⟩ => ⟨S64x64, .f32⟩
  | .hbm, ⟨14, _⟩ => ⟨S8x8x64, .f32⟩
  | .hbm, ⟨15, _⟩ => ⟨S64x64, .f32⟩
  | .hbm, ⟨16, _⟩ => ⟨S8x8x64, .f32⟩
  | .hbm, ⟨17, _⟩ => ⟨S64x64, .f32⟩
  | .hbm, ⟨18, _⟩ => ⟨S64x256, .f32⟩
  | .hbm, ⟨19, _⟩ => ⟨S64x256, .bf16⟩
  | .hbm, ⟨20, _⟩ => ⟨S1x64, .f32⟩
  | .hbm, ⟨21, _⟩ => ⟨S64x32, .bf16⟩
  | .hbm, ⟨22, _⟩ => ⟨S1x32, .f32⟩
  | .hbm, ⟨23, _⟩ => ⟨S16x32x4096, .f32⟩
  | .hbm, ⟨24, _⟩ => ⟨S16x32x64x64, .f32⟩
  | .hbm, ⟨25, _⟩ => ⟨S16x32x63x63, .f32⟩
  | .hbm, ⟨26, _⟩ => ⟨S16x63x63x32, .f32⟩
  | .hbm, ⟨27, _⟩ => ⟨S63504x32, .f32⟩
  | .local _ .vmem, ⟨0, _⟩ => ⟨S1x64x64x64, .bf16⟩
  | .local _ .vmem, ⟨1, _⟩ => ⟨S1x64x64x64, .bf16⟩
  | .local _ .vmem, ⟨2, _⟩ => ⟨S64x256, .bf16⟩
  | .local _ .vmem, ⟨3, _⟩ => ⟨S1x64, .f32⟩
  | .local _ .vmem, ⟨4, _⟩ => ⟨S64x32, .bf16⟩
  | .local _ .vmem, ⟨5, _⟩ => ⟨S1x32, .f32⟩
  | .local _ .vmem, ⟨6, _⟩ => ⟨S1x32x4096, .f32⟩
  | .local _ .vmem, ⟨7, _⟩ => ⟨S1x32x4096, .f32⟩
  | .local _ .vmem, ⟨8, _⟩ => ⟨S4096x256, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_off1 (k0_t1 : Fin k0_t1_loop.trips) : Fin 4 → Nat :=
  let c0_12 : Index := 0#32
  let c0_i32 : BitVec 32 := 0#32
  let c1_i32 : BitVec 32 := 1#32
  let arg8 : BitVec 32 := Scf.iv c0_i32 c1_i32 k0_t1
  let v36 : Index := Scalar.indexCast arg8
  let c0_13 : Index := 0#32
  let c0_14 : Index := 0#32
  ![0, v36.toNat, 0, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c64_i32_18 : BitVec 32 := 64#32
  let v42 : BitVec 32 := Scalar.muli arg8 c64_i32_18
  let v43 : Index := Scalar.indexCast v42
  let c0_19 : Index := 0#32
  ![v43.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x1x512x512 : Shape := ⟨4, ![16, 1, 512, 512]⟩
abbrev S256x64 : Shape := ⟨2, ![256, 64]⟩
abbrev S64 : Shape := ⟨1, ![64]⟩
abbrev S64x32 : Shape := ⟨2, ![64, 32]⟩
abbrev S32 : Shape := ⟨1, ![32]⟩
abbrev S63 : Shape := ⟨1, ![63]⟩
abbrev S63x1 : Shape := ⟨2, ![63, 1]⟩
abbrev S_ : Shape := ⟨0, ![]⟩
abbrev S16 : Shape := ⟨1, ![16]⟩
abbrev S1x16 : Shape := ⟨2, ![1, 16]⟩
abbrev S63x16 : Shape := ⟨2, ![63, 16]⟩
abbrev S63x1x16x1 : Shape := ⟨4, ![63, 1, 16, 1]⟩
abbrev S1x63x1x16 : Shape := ⟨4, ![1, 63, 1, 16]⟩
abbrev S63x63x16x16 : Shape := ⟨4, ![63, 63, 16, 16]⟩
abbrev S63x63x16x16x1 : Shape := ⟨5, ![63, 63, 16, 16, 1]⟩
abbrev S63x63x16x16x3 : Shape := ⟨5, ![63, 63, 16, 16, 3]⟩
abbrev S16x63x63x16x16 : Shape := ⟨5, ![16, 63, 63, 16, 16]⟩
abbrev S63504x256 : Shape := ⟨2, ![63504, 256]⟩
abbrev S63504x64 : Shape := ⟨2, ![63504, 64]⟩
abbrev S1x64 : Shape := ⟨2, ![1, 64]⟩
abbrev S63504x32 : Shape := ⟨2, ![63504, 32]⟩
abbrev S1x32 : Shape := ⟨2, ![1, 32]⟩

abbrev nBuf : Space → Nat
  | .hbm => 53
  | .vmem => 0
  | .smem => 0
  | _ => 0

abbrev bufTy : (tb : Table) → Fin (tcTables nBuf tb) → BufTy
  | .hbm, ⟨0, _⟩ => ⟨S16x1x512x512, .f32⟩
  | .hbm, ⟨1, _⟩ => ⟨S256x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S63, .i32⟩
  | .hbm, ⟨6, _⟩ => ⟨S63x1, .i32⟩
  | .hbm, ⟨7, _⟩ => ⟨S_, .i32⟩
  | .hbm, ⟨8, _⟩ => ⟨S63x1, .i32⟩
  | .hbm, ⟨9, _⟩ => ⟨S63x1, .i32⟩
  | .hbm, ⟨10, _⟩ => ⟨S16, .i32⟩
  | .hbm, ⟨11, _⟩ => ⟨S1x16, .i32⟩
  | .hbm, ⟨12, _⟩ => ⟨S63x16, .i32⟩
  | .hbm, ⟨13, _⟩ => ⟨S63x16, .i32⟩
  | .hbm, ⟨14, _⟩ => ⟨S63x16, .i32⟩
  | .hbm, ⟨15, _⟩ => ⟨S63x1x16x1, .i32⟩
  | .hbm, ⟨16, _⟩ => ⟨S1x63x1x16, .i32⟩
  | .hbm, ⟨17, _⟩ => ⟨S_, .i32⟩
  | .hbm, ⟨18, _⟩ => ⟨S63x1x16x1, .i32⟩
  | .hbm, ⟨19, _⟩ => ⟨S63x1x16x1, .i1⟩
  | .hbm, ⟨20, _⟩ => ⟨S_, .i32⟩
  | .hbm, ⟨21, _⟩ => ⟨S63x1x16x1, .i32⟩
  | .hbm, ⟨22, _⟩ => ⟨S63x1x16x1, .i32⟩
  | .hbm, ⟨23, _⟩ => ⟨S63x1x16x1, .i32⟩
  | .hbm, ⟨24, _⟩ => ⟨S_, .i32⟩
  | .hbm, ⟨25, _⟩ => ⟨S1x63x1x16, .i32⟩
  | .hbm, ⟨26, _⟩ => ⟨S1x63x1x16, .i1⟩
  | .hbm, ⟨27, _⟩ => ⟨S_, .i32⟩
  | .hbm, ⟨28, _⟩ => ⟨S1x63x1x16, .i32⟩
  | .hbm, ⟨29, _⟩ => ⟨S1x63x1x16, .i32⟩
  | .hbm, ⟨30, _⟩ => ⟨S1x63x1x16, .i32⟩
  | .hbm, ⟨31, _⟩ => ⟨S_, .i32⟩
  | .hbm, ⟨32, _⟩ => ⟨S63x63x16x16, .i32⟩
  | .hbm, ⟨33, _⟩ => ⟨S63x63x16x16, .i32⟩
  | .hbm, ⟨34, _⟩ => ⟨S63x63x16x16, .i32⟩
  | .hbm, ⟨35, _⟩ => ⟨S63x63x16x16, .i32⟩
  | .hbm, ⟨36, _⟩ => ⟨S63x63x16x16x1, .i32⟩
  | .hbm, ⟨37, _⟩ => ⟨S63x63x16x16x1, .i32⟩
  | .hbm, ⟨38, _⟩ => ⟨S63x63x16x16x1, .i32⟩
  | .hbm, ⟨39, _⟩ => ⟨S63x63x16x16x3, .i32⟩
  | .hbm, ⟨40, _⟩ => ⟨S16x63x63x16x16, .f32⟩
  | .hbm, ⟨41, _⟩ => ⟨S63504x256, .f32⟩
  | .hbm, ⟨42, _⟩ => ⟨S63504x64, .f32⟩
  | .hbm, ⟨43, _⟩ => ⟨S1x64, .f32⟩
  | .hbm, ⟨44, _⟩ => ⟨S63504x64, .f32⟩
  | .hbm, ⟨45, _⟩ => ⟨S63504x64, .f32⟩
  | .hbm, ⟨46, _⟩ => ⟨S_, .f32⟩
  | .hbm, ⟨47, _⟩ => ⟨S63504x64, .f32⟩
  | .hbm, ⟨48, _⟩ => ⟨S63504x64, .f32⟩
  | .hbm, ⟨49, _⟩ => ⟨S63504x32, .f32⟩
  | .hbm, ⟨50, _⟩ => ⟨S1x32, .f32⟩
  | .hbm, ⟨51, _⟩ => ⟨S63504x32, .f32⟩
  | .hbm, ⟨52, _⟩ => ⟨S63504x32, .f32⟩
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_cst : Ref sig .tc := ⟨.hbm, 46, rfl⟩
abbrev main_call0_v0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Proof.Payload.lean ====
/- The two values that the kernel's body stores, read at an index over the extended reals: a row block of the product of
   pixels and weights, and a column of the block of results. -/
module

public import proofs.«01_k».proof.Proof.Gen.KernelIdeal.Skeleton
public import Idealize.ShloMosaic.Lib.Pointwise

@[expose] public section

set_option maxRecDepth 16384

noncomputable section

namespace Cert.KernelIdeal.Enc

open Idealize.ShloMosaic Idealize.ShloMosaic.TcCoe Idealize.SL.Sem
open Cert.KernelIdeal Cert.KernelIdeal.Gen

/-- One trip's product: entry `(j, n)` contracts the 64 pixels of the 8 x 8 cell in column `j` of a row of cells with column
    `n` of the regrouped weights. -/
theorem pay1_at (v : FVec Ideal S1x1x64x64 .bf16) (q : FVec Ideal S64x256 .bf16) (j : Fin 64) (n : Fin 256) :
    k0_pay1 (F := Ideal) v q (ix2 j n) = ∑ k : Fin 64, v (ix4 0 0 k j) * q (ix2 k n) := by
  pointwise [k0_pay1]

/-- The rows of an array rotated up by 64. -/
def rot64 (x : FVec Ideal S4096x64 .f32) : FVec Ideal S4096x64 .f32 :=
  concatenate S4096x64 0 [⟨S4032x64, extractStridedSlice S4032x64 ![64, 0] x slices_S4096x64_o64_0_S4032x64⟩,
    ⟨S64x64, extractStridedSlice S64x64 ![0, 0] x slices_S4096x64_o0_0_S64x64⟩] concatenates_S4032x64_S64x64_S4096x64_d0

/-- The rows of an array rotated up by one. -/
def rot1 (x : FVec Ideal S4096x64 .f32) : FVec Ideal S4096x64 .f32 :=
  concatenate S4096x64 0 [⟨S4095x64, extractStridedSlice S4095x64 ![1, 0] x slices_S4096x64_o1_0_S4095x64⟩,
    ⟨S1x64, extractStridedSlice S1x64 ![0, 0] x slices_S4096x64_o0_0_S1x64⟩] concatenates_S4095x64_S1x64_S4096x64_d0

/-- Rotating by 64, at a row that does not wrap round, reads the row 64 further on. -/
theorem rot64_at (x : FVec Ideal S4096x64 .f32) (n : Fin 4096) (h : Fin 64) (hn : n.val < 4032) :
    rot64 x (ix2 n h) = x (ix2 ⟨n.val + 64, by omega⟩ h) := by
  pointwise [rot64]
  rw [dif_pos hn]
  exact congrArg (fun r => x (ix2 r h)) (Fin.ext (Nat.add_comm ..))

/-- Rotating by one, at a row that does not wrap round, reads the next row. -/
theorem rot1_at (x : FVec Ideal S4096x64 .f32) (n : Fin 4096) (h : Fin 64) (hn : n.val < 4095) :
    rot1 x (ix2 n h) = x (ix2 ⟨n.val + 1, by omega⟩ h) := by
  have e1 : rot1 x (ix2 n h) = extractStridedSlice S4095x64 ![1, 0] x slices_S4096x64_o1_0_S4095x64
      (ix2 (⟨n.val, hn⟩ : Fin 4095) h) :=
    concatenate_pair_apply_left (s₁ := S4095x64) 0 _ _ concatenates_S4095x64_S1x64_S4096x64_d0 _ rfl _ fun b => by
      match b with
      | ⟨0, _⟩ => rfl
      | ⟨1, _⟩ => rfl
  rw [e1]
  refine extractStridedSlice_apply _ _ _ _ _ fun b => ?_
  match b with
  | ⟨0, _⟩ => exact Nat.add_comm ..
  | ⟨1, _⟩ => exact (Nat.zero_add _).symm

/-- One group of 64 columns of the products. -/
def cols0 (p : FVec Ideal S4096x256 .f32) : FVec Ideal S4096x64 .f32 :=
  extractStridedSlice S4096x64 ![0, 0] p slices_S4096x256_o0_0_S4096x64

@[inherit_doc cols0] def cols1 (p : FVec Ideal S4096x256 .f32) : FVec Ideal S4096x64 .f32 :=
  extractStridedSlice S4096x64 ![0, 64] p slices_S4096x256_o0_64_S4096x64

@[inherit_doc cols0] def cols2 (p : FVec Ideal S4096x256 .f32) : FVec Ideal S4096x64 .f32 :=
  extractStridedSlice S4096x64 ![0, 128] p slices_S4096x256_o0_128_S4096x64

@[inherit_doc cols0] def cols3 (p : FVec Ideal S4096x256 .f32) : FVec Ideal S4096x64 .f32 :=
  extractStridedSlice S4096x64 ![0, 192] p slices_S4096x256_o0_192_S4096x64

/-- The first group of columns starts at column 0. -/
theorem cols0_at (p : FVec Ideal S4096x256 .f32) (n : Fin 4096) (h : Fin 64) :
    cols0 p (ix2 n h) = p (ix2 n ⟨h.val, by omega⟩) := by
  pointwise [cols0]
/-- The second group of columns starts at column 64. -/
theorem cols1_at (p : FVec Ideal S4096x256 .f32) (n : Fin 4096) (h : Fin 64) :
    cols1 p (ix2 n h) = p (ix2 n ⟨64 + h.val, by omega⟩) := by
  pointwise [cols1]
/-- The third group of columns starts at column 128. -/
theorem cols2_at (p : FVec Ideal S4096x256 .f32) (n : Fin 4096) (h : Fin 64) :
    cols2 p (ix2 n h) = p (ix2 n ⟨128 + h.val, by omega⟩) := by
  pointwise [cols2]
/-- The fourth group of columns starts at column 192. -/
theorem cols3_at (p : FVec Ideal S4096x256 .f32) (n : Fin 4096) (h : Fin 64) :
    cols3 p (ix2 n h) = p (ix2 n ⟨192 + h.val, by omega⟩) := by
  pointwise [cols3]

/-- The sum of the four partial products of every tile, before the bias. -/
def quad (p : FVec Ideal S4096x256 .f32) : FVec Ideal S4096x64 .f32 :=
  addf (addf (cols0 p) (rot64 (cols2 p))) (rot1 (addf (cols1 p) (rot64 (cols3 p))))

/-- The sum of the four partial products at row `n`: of the rows `n`, `n + 64`, `n + 1` and `n + 65`. -/
theorem quad_at (p : FVec Ideal S4096x256 .f32) (n : Fin 4096) (h : Fin 64) (hn : n.val < 4031) :
    quad p (ix2 n h)
      = p (ix2 n ⟨h.val, by omega⟩) + p (ix2 ⟨n.val + 64, by omega⟩ ⟨128 + h.val, by omega⟩)
        + (p (ix2 ⟨n.val + 1, by omega⟩ ⟨64 + h.val, by omega⟩)
          + p (ix2 ⟨n.val + 65, by omega⟩ ⟨192 + h.val, by omega⟩)) := by
  have e1 := rot64_at (cols2 p) n h (by omega)
  have e2 := rot1_at (addf (cols1 p) (rot64 (cols3 p))) n h (by omega)
  have e3 := rot64_at (cols3 p) ⟨n.val + 1, by omega⟩ h (by show n.val + 1 < 4032; omega)
  have a0 : quad p (ix2 n h) = cols0 p (ix2 n h) + rot64 (cols2 p) (ix2 n h)
      + rot1 (addf (cols1 p) (rot64 (cols3 p))) (ix2 n h) := rfl
  have a1 : addf (cols1 p) (rot64 (cols3 p)) (ix2 ⟨n.val + 1, by omega⟩ h)
      = cols1 p (ix2 ⟨n.val + 1, by omega⟩ h) + rot64 (cols3 p) (ix2 ⟨n.val + 1, by omega⟩ h) := rfl
  rw [a0, e1, e2, a1, e3, cols0_at, cols1_at, cols2_at, cols3_at]

/-- The block of results over the hidden layer's sums `s`: bias, rectifier, second layer, transposed. -/
def outer (s : FVec Ideal S4096x64 .f32) (b1 : FVec Ideal S1x64 .f32) (w2 : FVec Ideal S64x32 .bf16)
    (b2 : FVec Ideal S1x32 .f32) : FVec Ideal S1x32x4096 .f32 :=
  shapeCast S1x32x4096 (transpose S32x4096 [1, 0]
    (addf (matmul dot_S4096x64_S64x32_S4096x32_1_0_0_1_n_n none
        (truncf .bf16 (maximumf (addf s (broadcastTo S4096x64 (shapeCast S1x64 b1 shapeCasts_S1x64_S1x64) broadcasts_S1x64_S4096x64))
          (broadcast S4096x64 (Scalar.ofBits (F := Ideal) .f32 0x00000000#32))) bitsLt_bf16_f32)
        (shapeCast S64x32 w2 shapeCasts_S64x32_S64x32) (constant S4096x32 .f32 0x00000000#32))
      (broadcastTo S4096x32 (shapeCast S1x32 b2 shapeCasts_S1x32_S1x32) broadcasts_S1x32_S4096x32))
    transposes_S4096x32_p1_0_S32x4096) shapeCasts_S32x4096_S1x32x4096

/-- The block of results at output `o` and row `n`: the second layer over the rectified sums of row `n`. -/
theorem outer_at (s : FVec Ideal S4096x64 .f32) (b1 : FVec Ideal S1x64 .f32) (w2 : FVec Ideal S64x32 .bf16)
    (b2 : FVec Ideal S1x32 .f32) (o : Fin 32) (n : Fin 4096) :
    outer s b1 w2 b2 (ix3 0 o n)
      = (∑ h : Fin 64, max (s (ix2 n h) + b1 (ix2 0 h)) 0 * w2 (ix2 h o)) + b2 (ix2 0 o) := by
  pointwise [outer]

/-- The stored block is the second layer over the sum of the four partial products. -/
theorem pay2_eq (p : FVec Ideal S4096x256 .f32) (b1 : FVec Ideal S1x64 .f32) (w2 : FVec Ideal S64x32 .bf16)
    (b2 : FVec Ideal S1x32 .f32) : k0_pay2 (F := Ideal) p b1 w2 b2 = outer (quad p) b1 w2 b2 := rfl

/-- The stored block at output `o` and row `n`. -/
theorem pay2_at (p : FVec Ideal S4096x256 .f32) (b1 : FVec Ideal S1x64 .f32) (w2 : FVec Ideal S64x32 .bf16)
    (b2 : FVec Ideal S1x32 .f32) (o : Fin 32) (n : Fin 4096) (hn : n.val < 4031) :
    k0_pay2 (F := Ideal) p b1 w2 b2 (ix3 0 o n)
      = (∑ h : Fin 64, max (p (ix2 n ⟨h.val, by omega⟩) + p (ix2 ⟨n.val + 64, by omega⟩ ⟨128 + h.val, by omega⟩)
            + (p (ix2 ⟨n.val + 1, by omega⟩ ⟨64 + h.val, by omega⟩)
              + p (ix2 ⟨n.val + 65, by omega⟩ ⟨192 + h.val, by omega⟩)) + b1 (ix2 0 h)) 0 * w2 (ix2 h o))
        + b2 (ix2 0 o) := by
  rw [pay2_eq, outer_at]
  refine congrArg (· + b2 (ix2 0 o)) (Finset.sum_congr rfl fun h _ => ?_)
  rw [quad_at p n h hn]

end Cert.KernelIdeal.Enc

end
-- ==== Proof.Scratch.lean ====
/- What the loop leaves in the scratch array: the product of the image's regrouped pixels and the regrouped weights. -/
module

public import proofs.«01_k».proof.Proof.Gen.KernelIdeal.Frame
public import proofs.«01_k».proof.Proof.Payload
public import Idealize.ShloMosaic.Lib.Pipeline.ValueKit

@[expose] public section

set_option maxRecDepth 16384

noncomputable section

namespace Cert.KernelIdeal.Enc

open Idealize.ShloMosaic Idealize.ShloMosaic.TcCoe Idealize.SL.Sem
open Cert.KernelIdeal Cert.KernelIdeal.Gen

/-- The products of the loop: row `64 i + j` is the cell in row `i`, column `j` of the block, contracted with the weights. -/
def prod (x : FVec Ideal S1x64x64x64 .bf16) (q : FVec Ideal S64x256 .bf16) : FVec Ideal S4096x256 .f32 := fun y =>
  ∑ k : Fin 64, x (ix4 0 ⟨(y 0).val / 64, by have : (y 0).val < 4096 := (y 0).isLt; omega⟩ k ⟨(y 0).val % 64, by omega⟩) * q (ix2 k (y 1))

/-- What one trip of the loop stores: one product, through the rectangle of its rows. -/
theorem tripL_eq (𝒱 : Variants) (c : Dev nD) (bd : Option 𝒱.V) (i : grid0.Coords)
    (arg1 : Memref sig .tc .vmem S1x64x64x64 .bf16) (harg1 : arg1.IsWhole) (arg2 : Memref sig .tc .vmem S64x256 .bf16)
    (harg2 : arg2.IsWhole) (arg3 : Memref sig .tc .vmem S1x64 .f32) (harg3 : arg3.IsWhole)
    (arg4 : Memref sig .tc .vmem S64x32 .bf16) (harg4 : arg4.IsWhole) (arg5 : Memref sig .tc .vmem S1x32 .f32)
    (harg5 : arg5.IsWhole) (arg6 : Memref sig .tc .vmem S1x32x4096 .f32) (harg6 : arg6.IsWhole)
    (arg7 : Memref sig .tc .vmem S4096x256 .f32) (harg7 : arg7.IsWhole)
    (X1 : BufTy.Contents (Elt Ideal) arg1.view.ty) (X2 : BufTy.Contents (Elt Ideal) arg2.view.ty)
    (k : Fin k0_t1_loop.trips) :
    tripL_k0_t1 (F := Ideal) 𝒱 c bd i arg1 harg1 arg2 harg2 arg3 harg3 arg4 harg4 arg5 harg5 arg6 harg6 arg7 harg7 X1 X2 k
      = [⟨Rect.unit (s := S4096x256) (k0_off2 k) S64x256.size (k0_off2_inb k),
          k0_pay1 (F := Ideal)
            (arg1.view.readAt (Elt Ideal) (Rect.unit (s := S1x64x64x64) (k0_off1 k) S1x1x64x64.size (k0_off1_inb k)).toLoadRect X1)
            (arg2.view.readAt (Elt Ideal) (Rect.unit (s := S64x256) ![0, 0] S64x256.size inb_S64x256_S64x256_0_0).toLoadRect X2)⟩] := by
  unfold tripL_k0_t1 trip_k0_t1
  rfl

/-- The loop has 64 trips. -/
theorem trips_eq : k0_t1_loop.trips = 64 := by decide +kernel

/-- The rectangle one trip stores through. -/
abbrev rowRect (k : Fin k0_t1_loop.trips) : Rect S4096x256 :=
  Rect.unit (s := S4096x256) (k0_off2 k) S64x256.size (k0_off2_inb k)

/-- Trip `k` stores the rows from `64 k` on. -/
theorem rowRect_val0 (k : Fin k0_t1_loop.trips) (x : S64x256.Idx) :
    ((rowRect k).emb x 0).val = 64 * k.val + (x 0).val :=
  (ValueKit.rect_emb_unit_val (s := S4096x256) (k0_off2 k) S64x256.size (k0_off2_inb k) x 0).trans
    (congrArg (· + (x 0).val) (congrFun (k0_off2_eq k) 0))

/-- Trip `k` stores every column. -/
theorem rowRect_val1 (k : Fin k0_t1_loop.trips) (x : S64x256.Idx) : ((rowRect k).emb x 1).val = (x 1).val :=
  (ValueKit.rect_emb_unit_val (s := S4096x256) (k0_off2 k) S64x256.size (k0_off2_inb k) x 1).trans
    ((congrArg (· + (x 1).val) (congrFun (k0_off2_eq k) 1)).trans (Nat.zero_add _))

/-- What one trip stores, at an index of its block: the products at the row the block's offset gives. -/
theorem pay1_prod (x0 : FVec Ideal S1x64x64x64 .bf16) (x1 : FVec Ideal S64x256 .bf16) (k : Fin k0_t1_loop.trips)
    (x : S64x256.Idx) :
    k0_pay1 (F := Ideal)
        (View.ld x0 (Rect.unit (s := S1x64x64x64) (k0_off1 k) S1x1x64x64.size (k0_off1_inb k)))
        (View.ld x1 (Rect.unit (s := S64x256) ![0, 0] S64x256.size inb_S64x256_S64x256_0_0)) x
      = prod x0 x1 ((rowRect k).emb x) := by
  have hk : k.val < 64 := trips_eq ▸ k.isLt
  obtain ⟨a, b, rfl⟩ : ∃ (a : Fin 64) (b : Fin 256), x = ix2 a b := ⟨_, _, eq_ix2 x⟩
  have y0 : _ = 64 * k.val + a.val := rowRect_val0 k (ix2 a b)
  have y1 : _ = b.val := rowRect_val1 k (ix2 a b)
  rw [pay1_at]
  unfold prod
  refine Finset.sum_congr rfl fun l _ => ?_
  have h1 := k0_off1_eq k
  refine congrArg₂ (· * ·) (congrArg x0 (funext fun d => Fin.ext ?_)) (congrArg x1 (funext fun d => Fin.ext ?_))
  · have r := ValueKit.rect_emb_unit_val (s := S1x64x64x64) (k0_off1 k) S1x1x64x64.size (k0_off1_inb k) (ix4 0 0 l a) d
    refine (r.trans (congrArg (· + (ix4 (n0 := 1) (n1 := 1) 0 0 l a d).val) (congrFun h1 d))).trans ?_
    match d with
    | ⟨0, _⟩ => rfl
    | ⟨1, _⟩ => show k.val + 0 = ((rowRect k).emb (ix2 a b) 0).val / 64; omega
    | ⟨2, _⟩ => exact Nat.zero_add _
    | ⟨3, _⟩ => show 0 + a.val = ((rowRect k).emb (ix2 a b) 0).val % 64; omega
  · have r := ValueKit.rect_emb_unit_val (s := S64x256) ![0, 0] S64x256.size inb_S64x256_S64x256_0_0 (ix2 l b) d
    refine r.trans ?_
    match d with
    | ⟨0, _⟩ => exact Nat.zero_add _
    | ⟨1, _⟩ => show 0 + b.val = ((rowRect k).emb (ix2 a b) 1).val; omega

section

variable (𝒱 : Variants) (c : Dev nD) (bd : Option 𝒱.V) (i : grid0.Coords)
    (arg1 : Memref sig .tc .vmem S1x64x64x64 .bf16) (harg1 : arg1.IsWhole) (arg2 : Memref sig .tc .vmem S64x256 .bf16)
    (harg2 : arg2.IsWhole) (arg3 : Memref sig .tc .vmem S1x64 .f32) (harg3 : arg3.IsWhole)
    (arg4 : Memref sig .tc .vmem S64x32 .bf16) (harg4 : arg4.IsWhole) (arg5 : Memref sig .tc .vmem S1x32 .f32)
    (harg5 : arg5.IsWhole) (arg6 : Memref sig .tc .vmem S1x32x4096 .f32) (harg6 : arg6.IsWhole)
    (arg7 : Memref sig .tc .vmem S4096x256 .f32) (harg7 : arg7.IsWhole)
    (x0 : FVec Ideal S1x64x64x64 .bf16) (x1 : FVec Ideal S64x256 .bf16)

/-- After `n` trips the first `64 n` rows of the scratch hold the products. -/
theorem canon_trips : ∀ (n : Nat), n ≤ k0_t1_loop.trips → ∀ y : S4096x256.Idx, (y 0).val < 64 * n →
    View.canon (pb_k0_t1 (F := Ideal) 𝒱 c bd i arg1 harg1 arg2 harg2 arg3 harg3 arg4 harg4 arg5 harg5 arg6 harg6 arg7 harg7
      (harg1.unread x0) (harg2.unread x1) n) y = prod x0 x1 y
  | 0, _, y, hy => absurd hy (by omega)
  | n + 1, hn, y, hy => by
    have e := pb_k0_t1_succ (F := Ideal) 𝒱 c bd i arg1 harg1 arg2 harg2 arg3 harg3 arg4 harg4 arg5 harg5 arg6 harg6 arg7 harg7
      (harg1.unread x0) (harg2.unread x1) ⟨n, hn⟩
    rw [show n + 1 = (⟨n, hn⟩ : Fin k0_t1_loop.trips).val + 1 from rfl, e, tripL_eq, List.singleton_append]
    simp only [View.readAt_eq_ld, Memref.IsWhole.read_unread]
    by_cases h : 64 * n ≤ (y 0).val
    · have hy1 : (y 1).val < 256 := (y 1).isLt
      have hx : (rowRect ⟨n, hn⟩).emb
          (ix2 (⟨(y 0).val - 64 * n, by omega⟩ : Fin 64) (⟨(y 1).val, hy1⟩ : Fin 256)) = y := by
        funext d
        refine Fin.ext ?_
        match d with
        | ⟨0, _⟩ => exact (rowRect_val0 ⟨n, hn⟩ _).trans (show 64 * n + ((y 0).val - 64 * n) = (y 0).val by omega)
        | ⟨1, _⟩ => exact rowRect_val1 ⟨n, hn⟩ _
      rw [← hx, View.canon_cons_emb]
      exact pay1_prod x0 x1 ⟨n, hn⟩ _
    · rw [View.canon_cons_of_not_mem]
      · exact canon_trips n (by omega) y (by omega)
      · intro hm
        obtain ⟨x, rfl⟩ := (rowRect ⟨n, hn⟩).exists_idx_of_mem hm
        have hv : _ = 64 * n + (x 0).val := rowRect_val0 ⟨n, hn⟩ x
        exact h (hv ▸ Nat.le_add_right _ _)

end

/-- The block of results that a grid point leaves, from the blocks it is given. -/
theorem outs_eq (m : (ℓ : Loc nD τ sig) → Buf (Elt Ideal) ℓ) (c : Dev nD) (t : Fin cfg0.N) :
    outsAt0 m c t = k0_pay2 (F := Ideal) (prod (iblk m c 0 t) (iblk m c 1 t)) (iblk m c 2 t) (iblk m c 3 t) (iblk m c 4 t) := by
  unfold outsAt0
  frame_out
  refine congrArg (fun p => k0_pay2 (F := Ideal) p (iblk m c 2 t) (iblk m c 3 t) (iblk m c 4 t)) ?_
  rw [View.readCov_eq_canon']
  funext j
  have e : (Rect.unit (s := S4096x256) ![0, 0] ![4096, 256] inb_S4096x256_S4096x256_0_0).toLoadRect.idx j = j := by
    funext d
    refine Fin.ext ?_
    match d with
    | ⟨0, _⟩ => show 0 + 1 * (j 0).val = (j 0).val; omega
    | ⟨1, _⟩ => show 0 + 1 * (j 1).val = (j 1).val; omega
  rw [e]
  exact canon_trips _ c _ _ _ _ _ _ _ _ _ _ _ _ _ _ _ _ _ _ k0_t1_loop.trips le_rfl j
    (by rw [trips_eq]; exact (j 0).isLt)

end Cert.KernelIdeal.Enc

end
-- ==== Proof.Entry.lean ====
/- What the arrays hold when the kernel's region is entered, read at an index. -/
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Enc

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The regrouped pixels: row `8 r + s` of the cell holds pixel `(r, s)` of it. -/
theorem blk_at (b : Fin 16) (i : Fin 64) (k : Fin 64) (j : Fin 64) :
    (show FVec Ideal S16x64x64x64 .bf16 from V m c main_v3) (ix4 b i k j)
      = (show FVec Ideal S16x1x512x512 .f32 from m ((c : Thread nD τ).loc main_arg0))
          (ix4 b 0 ⟨i.val * 8 + k.val / 8, by omega⟩ ⟨j.val * 8 + k.val % 8, by omega⟩) := by
  simp only [V, V0, hostOps0, List.flatten_cons, List.flatten_nil, List.append_nil]
  after_results
  pointwise

/-- One quarter of the tile's rows of weights, as 64 rows. -/
def quarter (w : FVec Ideal S256x64 .f32) (off : Fin 3 → Nat) (h : S16x16x64.Slices off S8x8x64) : FVec Ideal S64x64 .f32 :=
  shapeCast S64x64 (extractStridedSlice S8x8x64 off (shapeCast S16x16x64 w shapeCasts_S256x64_S16x16x64) h) shapeCasts_S8x8x64_S64x64

/-- The four quarters side by side. -/
def quarters (w : FVec Ideal S256x64 .f32) : FVec Ideal S64x256 .f32 :=
  concatenate S64x256 1 [⟨S64x64, quarter w ![0, 0, 0] slices_S16x16x64_S8x8x64_0_0_0⟩,
    ⟨S64x64, quarter w ![0, 8, 0] slices_S16x16x64_S8x8x64_0_8_0⟩,
    ⟨S64x64, quarter w ![8, 0, 0] slices_S16x16x64_S8x8x64_8_0_0⟩,
    ⟨S64x64, quarter w ![8, 8, 0] slices_S16x16x64_S8x8x64_8_8_0⟩] concatenates_S64x64_S64x64_S64x64_S64x64_S64x256_d1

/-- Row `k` of the four quarters side by side, in column `n`: the row of weights of the pixel that is `k`-th in quarter `n / 64`. -/
theorem quarters_at (w : FVec Ideal S256x64 .f32) (k : Fin 64) (n : Fin 256) :
    quarters w (ix2 k n)
      = w (ix2 ⟨(8 * (n.val / 128) + k.val / 8) * 16 + (8 * (n.val / 64 % 2) + k.val % 8), by omega⟩ ⟨n.val % 64, by omega⟩) := by
  pointwise [quarters, quarter]
  blk_point []

/-- The array of regrouped weights holds the four quarters side by side. -/
theorem wts_eq : V m c main_v14
    = (truncf .bf16 (quarters (m ((c : Thread nD τ).loc main_arg1))) bitsLt_bf16_f32 : FVec Ideal S64x256 .bf16) := by
  simp only [V, V0, hostOps0, List.flatten_cons, List.flatten_nil, List.append_nil]
  after_results
  refine congrArg (fun x => (truncf .bf16 x bitsLt_bf16_f32 : FVec Ideal S64x256 .bf16)) ?_
  rfl

/-- The regrouped weights: the four groups of 64 columns are the four quarters of a tile. -/
theorem wts_at (k : Fin 64) (n : Fin 256) :
    (show FVec Ideal S64x256 .bf16 from V m c main_v14) (ix2 k n)
      = (show FVec Ideal S256x64 .f32 from m ((c : Thread nD τ).loc main_arg1))
          (ix2 ⟨(8 * (n.val / 128) + k.val / 8) * 16 + (8 * (n.val / 64 % 2) + k.val % 8), by omega⟩ ⟨n.val % 64, by omega⟩) :=
  (congrFun (wts_eq m c) (ix2 k n)).trans (quarters_at (m ((c : Thread nD τ).loc main_arg1)) k n)

/-- The first layer's bias, as a row. -/
theorem bias1_at (h : Fin 64) :
    (show FVec Ideal S1x64 .f32 from V m c main_v15) (ix2 0 h)
      = (show FVec Ideal S64 .f32 from m ((c : Thread nD τ).loc main_arg2)) (ix1 h) := by
  simp only [V, V0, hostOps0, List.flatten_cons, List.flatten_nil, List.append_nil]
  after_results
  pointwise

/-- The second layer's weights. -/
theorem wts2_at (h : Fin 64) (o : Fin 32) :
    (show FVec Ideal S64x32 .bf16 from V m c main_v16) (ix2 h o)
      = (show FVec Ideal S64x32 .f32 from m ((c : Thread nD τ).loc main_arg3)) (ix2 h o) := by
  simp only [V, V0, hostOps0, List.flatten_cons, List.flatten_nil, List.append_nil]
  after_results
  pointwise

/-- The second layer's bias, as a row. -/
theorem bias2_at (o : Fin 32) :
    (show FVec Ideal S1x32 .f32 from V m c main_v17) (ix2 0 o)
      = (show FVec Ideal S32 .f32 from m ((c : Thread nD τ).loc main_arg4)) (ix1 o) := by
  simp only [V, V0, hostOps0, List.flatten_cons, List.flatten_nil, List.append_nil]
  after_results
  pointwise

end Cert.KernelIdeal.Enc

end
-- ==== Proof.Spec.lean ====
/- The encoder as a formula: each tile of 16 x 16 pixels through two layers, and a tile's sum cut into its four quarters. -/
module

public import Idealize.ShloMosaic.Lib.Pointwise
public import Idealize.ShloMosaic.Lib.Pipeline.ValueKit

@[expose] public section

noncomputable section

namespace Cert.Enc

open Idealize.ShloMosaic

/-- The position, among the 256 pixels of a tile, of pixel `k` of the quarter in half-row `r` and half-column `s`. -/
def at4 (r s : Fin 2) (k : Fin 64) : Fin 256 := ⟨(8 * r.val + k.val / 8) * 16 + (8 * s.val + k.val % 8), by omega⟩

/-- The 256 positions of a tile are the 64 positions of each of its four quarters. -/
def quarterEquiv : Fin 256 ≃ (Fin 2 × Fin 2) × Fin 64 where
  toFun l := ((⟨l.val / 128, by omega⟩, ⟨l.val % 16 / 8, by omega⟩), ⟨l.val / 16 % 8 * 8 + l.val % 8, by omega⟩)
  invFun p := at4 p.1.1 p.1.2 p.2
  left_inv l := by
    refine Fin.ext ?_
    simp only [at4]
    omega
  right_inv p := by
    obtain ⟨⟨r, s⟩, k⟩ := p
    simp only [at4, Prod.mk.injEq, Fin.ext_iff]
    omega

/-- A sum over a tile is the sum over its quarters: those on the left, upper and lower, then those on the right. -/
theorem sum_quarters {M : Type} [AddCommMonoid M] (f : Fin 256 → M) :
    ∑ l, f l = ∑ k, f (at4 0 0 k) + ∑ k, f (at4 1 0 k) + (∑ k, f (at4 0 1 k) + ∑ k, f (at4 1 1 k)) := by
  rw [← Equiv.sum_comp quarterEquiv.symm f, Fintype.sum_prod_type, Fintype.sum_prod_type]
  simp only [Fin.sum_univ_two]
  show ∑ k, f (at4 0 0 k) + ∑ k, f (at4 0 1 k) + (∑ k, f (at4 1 0 k) + ∑ k, f (at4 1 1 k)) = _
  exact add_add_add_comm _ _ _ _

/-- The encoder's value for the tile in row `i` and column `j` of image `b`, at output `o`: the two layers over the tile's
    256 pixels, in the extended reals. -/
def enc (x : FVec Ideal ⟨4, ![16, 1, 512, 512]⟩ .f32) (w1 : FVec Ideal ⟨2, ![256, 64]⟩ .f32) (b1 : FVec Ideal ⟨1, ![64]⟩ .f32)
    (w2 : FVec Ideal ⟨2, ![64, 32]⟩ .f32) (b2 : FVec Ideal ⟨1, ![32]⟩ .f32) (b : Fin 16) (i j : Fin 63) (o : Fin 32) : EReal :=
  (∑ h : Fin 64, max ((∑ l : Fin 256, x (ix4 b 0 ⟨i.val * 8 + l.val / 16, by omega⟩ ⟨j.val * 8 + l.val % 16, by omega⟩)
    * w1 (ix2 l h)) + b1 (ix1 h)) 0 * w2 (ix2 h o)) + b2 (ix1 o)

end Cert.Enc

end
-- ==== Proof.Region.lean ====
/- What the kernel's region leaves in its array of results. -/
module

public import proofs.«01_k».proof.Proof.Scratch
public import proofs.«01_k».proof.Proof.Entry
public import proofs.«01_k».proof.Proof.Spec

@[expose] public section

set_option maxRecDepth 16384

noncomputable section

namespace Cert.KernelIdeal.Enc

open Idealize.ShloMosaic Idealize.ShloMosaic.TcCoe Idealize.SL.Sem
open Cert.KernelIdeal Cert.KernelIdeal.Gen

variable (m : (ℓ : Loc nD τ sig) → Buf (Elt Ideal) ℓ) (c : Dev nD)

/-- Which block each window is on at a grid point: the images and the results at the point's own, the others at their only one. -/
theorem idx : ∀ t : Fin cfg0.N, win0_0.index t = ![t.val, 0, 0, 0] ∧ win0_1.index t = ![0, 0] ∧ win0_2.index t = ![0, 0]
    ∧ win0_3.index t = ![0, 0] ∧ win0_4.index t = ![0, 0] ∧ win0_5.index t = ![t.val, 0, 0] :=
  (by decide +kernel : ∀ t : Fin grid0.N, _)

/-- The block of results of image `t`. -/
def block (t : Fin cfg0.N) : FVec Ideal S1x32x4096 .f32 :=
  k0_pay2 (F := Ideal) (prod (iblk m c 0 t) (iblk m c 1 t)) (iblk m c 2 t) (iblk m c 3 t) (iblk m c 4 t)

/-- The array of results, block by block. -/
def blocks : FVec Ideal S16x32x4096 .f32 := fun y => block m c ⟨(y 0).val, (y 0).isLt⟩ (ix3 0 (y 1) (y 2))

/-- Image `t`'s block is where the array of results has it. -/
theorem block_at (t : Fin cfg0.N) (y : S1x32x4096.Idx) : block m c t y = blocks m c ((win0_5.blk t).view.emb y) := by
  have e : (win0_5.blk t).view.emb y = ix3 (⟨t.val, t.isLt⟩ : Fin 16) (y 1) (y 2) := by
    blk_ext [idx t]
  rw [e]
  show block m c t y = block m c t (ix3 0 (y 1) (y 2))
  refine congrArg (block m c t) ((eq_ix3 y).trans ?_)
  exact congrArg (fun a : Fin 1 => ix3 (n0 := 1) (n1 := 32) (n2 := 4096) a (y 1) (y 2)) (Fin.ext (Nat.lt_one_iff.mp (y 0).isLt))

/-- The region leaves the array of results block by block. -/
theorem final : (dats m 0 c).arrAt 5 (cfgs 0).N = blocks m c := by
  refine (dats m 0 c).arrAt_eq_of_covers 5 _ (by decide +kernel) fun t hf y => ?_
  blk_simp
  rw [after0_5, outs_eq]
  exact block_at m c t y

/-- A grid point's block of pixels: the image of that number, cell by cell. -/
theorem iblk0_at (t : Fin cfg0.N) (i k j : Fin 64) :
    (show FVec Ideal S1x64x64x64 .bf16 from iblk m c 0 t) (ix4 0 i k j)
      = (show FVec Ideal S16x1x512x512 .f32 from m ((c : Thread nD τ).loc main_arg0))
          (ix4 ⟨t.val, t.isLt⟩ 0 ⟨i.val * 8 + k.val / 8, by omega⟩ ⟨j.val * 8 + k.val % 8, by omega⟩) := by
  refine Eq.trans ?_ (blk_at m c ⟨t.val, t.isLt⟩ i k j)
  blk_point [iblk, idx t]

/-- A grid point's block of weights: all the regrouped weights. -/
theorem iblk1_at (t : Fin cfg0.N) (k : Fin 64) (n : Fin 256) :
    (show FVec Ideal S64x256 .bf16 from iblk m c 1 t) (ix2 k n)
      = (show FVec Ideal S256x64 .f32 from m ((c : Thread nD τ).loc main_arg1))
          (ix2 ⟨(8 * (n.val / 128) + k.val / 8) * 16 + (8 * (n.val / 64 % 2) + k.val % 8), by omega⟩ ⟨n.val % 64, by omega⟩) := by
  refine Eq.trans ?_ (wts_at m c k n)
  blk_point [iblk, idx t]

/-- A grid point's block of the first layer's bias: the whole bias. -/
theorem iblk2_at (t : Fin cfg0.N) (h : Fin 64) :
    (show FVec Ideal S1x64 .f32 from iblk m c 2 t) (ix2 0 h)
      = (show FVec Ideal S64 .f32 from m ((c : Thread nD τ).loc main_arg2)) (ix1 h) := by
  refine Eq.trans ?_ (bias1_at m c h)
  blk_point [iblk, idx t]

/-- A grid point's block of the second layer's weights: all of them. -/
theorem iblk3_at (t : Fin cfg0.N) (h : Fin 64) (o : Fin 32) :
    (show FVec Ideal S64x32 .bf16 from iblk m c 3 t) (ix2 h o)
      = (show FVec Ideal S64x32 .f32 from m ((c : Thread nD τ).loc main_arg3)) (ix2 h o) := by
  refine Eq.trans ?_ (wts2_at m c h o)
  blk_point [iblk, idx t]

/-- A grid point's block of the second layer's bias: the whole bias. -/
theorem iblk4_at (t : Fin cfg0.N) (o : Fin 32) :
    (show FVec Ideal S1x32 .f32 from iblk m c 4 t) (ix2 0 o)
      = (show FVec Ideal S32 .f32 from m ((c : Thread nD τ).loc main_arg4)) (ix1 o) := by
  refine Eq.trans ?_ (bias2_at m c o)
  blk_point [iblk, idx t]

/-- The scratch at the row of cell `(i + r, j + s)`, in the columns of quarter `(r, s)`: that quarter's part of the sum over
    the tile in row `i` and column `j`. -/
theorem part (t : Fin cfg0.N) (i j : Fin 63) (r s : Fin 2) (h : Fin 64) (n : Fin 4096) (a : Fin 256)
    (hn : n.val = 64 * (i.val + r.val) + (j.val + s.val)) (ha : a.val = 128 * r.val + 64 * s.val + h.val) :
    prod (iblk m c 0 t) (iblk m c 1 t) (ix2 n a)
      = ∑ k : Fin 64, (fun l : Fin 256 => (show FVec Ideal S16x1x512x512 .f32 from m ((c : Thread nD τ).loc main_arg0))
            (ix4 ⟨t.val, t.isLt⟩ 0 ⟨i.val * 8 + l.val / 16, by omega⟩ ⟨j.val * 8 + l.val % 16, by omega⟩)
          * (show FVec Ideal S256x64 .f32 from m ((c : Thread nD τ).loc main_arg1)) (ix2 l h)) (Cert.Enc.at4 r s k) := by
  show ∑ k : Fin 64, (show FVec Ideal S1x64x64x64 .bf16 from iblk m c 0 t) (ix4 0 ⟨n.val / 64, by omega⟩ k ⟨n.val % 64, by omega⟩)
      * (show FVec Ideal S64x256 .bf16 from iblk m c 1 t) (ix2 k a) = _
  refine Finset.sum_congr rfl fun k _ => ?_
  refine congrArg₂ (· * ·) ((iblk0_at m c t _ _ _).trans ?_) ((iblk1_at m c t _ _).trans ?_)
  · refine congrArg (m ((c : Thread nD τ).loc main_arg0)) ?_
    refine congrArg₂ (fun (u v : Fin 512) => ix4 (n0 := 16) (n1 := 1) (⟨t.val, t.isLt⟩ : Fin 16) 0 u v) (Fin.ext ?_) (Fin.ext ?_)
    · show n.val / 64 * 8 + k.val / 8 = i.val * 8 + ((8 * r.val + k.val / 8) * 16 + (8 * s.val + k.val % 8)) / 16
      omega
    · show n.val % 64 * 8 + k.val % 8 = j.val * 8 + ((8 * r.val + k.val / 8) * 16 + (8 * s.val + k.val % 8)) % 16
      omega
  · refine congrArg (m ((c : Thread nD τ).loc main_arg1)) ?_
    refine congrArg₂ (fun (u : Fin 256) (v : Fin 64) => ix2 u v) (Fin.ext ?_) (Fin.ext ?_)
    · show (8 * (a.val / 128) + k.val / 8) * 16 + (8 * (a.val / 64 % 2) + k.val % 8)
        = (8 * r.val + k.val / 8) * 16 + (8 * s.val + k.val % 8)
      omega
    · show a.val % 64 = h.val
      omega

/-- The array of results at image `b`, output `o` and the row of cell `(i, j)`: the encoder's value for the tile there. -/
theorem blocks_at (b : Fin 16) (i j : Fin 63) (o : Fin 32) :
    blocks m c (ix3 b o ⟨64 * i.val + j.val, by omega⟩)
      = Cert.Enc.enc (m ((c : Thread nD τ).loc main_arg0)) (m ((c : Thread nD τ).loc main_arg1))
          (m ((c : Thread nD τ).loc main_arg2)) (m ((c : Thread nD τ).loc main_arg3)) (m ((c : Thread nD τ).loc main_arg4)) b i j o := by
  show k0_pay2 (F := Ideal) (prod (iblk m c 0 _) (iblk m c 1 _)) (iblk m c 2 _) (iblk m c 3 _) (iblk m c 4 _)
    (ix3 0 o ⟨64 * i.val + j.val, by omega⟩) = _
  rw [pay2_at _ _ _ _ _ _ (by show 64 * i.val + j.val < 4031; omega)]
  unfold Cert.Enc.enc
  refine congrArg₂ (· + ·) (Finset.sum_congr rfl fun h _ => ?_) (iblk4_at m c _ o)
  refine congrArg₂ (· * ·) (congrArg (max · 0) (congrArg₂ (· + ·) ?_ (iblk2_at m c _ h))) (iblk3_at m c _ h o)
  rw [Cert.Enc.sum_quarters]
  refine congrArg₂ (· + ·) (congrArg₂ (· + ·) ?_ ?_) (congrArg₂ (· + ·) ?_ ?_)
  · exact part m c ⟨b.val, b.isLt⟩ i j 0 0 h _ _ (by show 64 * i.val + j.val = 64 * (i.val + 0) + (j.val + 0); omega) (by show h.val = 128 * 0 + 64 * 0 + h.val; omega)
  · exact part m c ⟨b.val, b.isLt⟩ i j 1 0 h _ _ (by show 64 * i.val + j.val + 64 = 64 * (i.val + 1) + (j.val + 0); omega) (by show 128 + h.val = 128 * 1 + 64 * 0 + h.val; omega)
  · exact part m c ⟨b.val, b.isLt⟩ i j 0 1 h _ _ (by show 64 * i.val + j.val + 1 = 64 * (i.val + 0) + (j.val + 1); omega) (by show 64 + h.val = 128 * 0 + 64 * 1 + h.val; omega)
  · exact part m c ⟨b.val, b.isLt⟩ i j 1 1 h _ _ (by show 64 * i.val + j.val + 65 = 64 * (i.val + 1) + (j.val + 1); omega) (by show 192 + h.val = 128 * 1 + 64 * 1 + h.val; omega)

end Cert.KernelIdeal.Enc

end
-- ==== Proof.Tail.lean ====
/- The kernel's result, after the host operations that follow its region, read at an index. -/
module

public import proofs.«01_k».proof.Proof.Region

@[expose] public section

set_option maxRecDepth 16384

noncomputable section

namespace Cert.KernelIdeal.Enc

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The host operations after the region, as one function of the array of results. -/
def crop (x : FVec Ideal S16x32x4096 .f32) : FVec Ideal S63504x32 .f32 :=
  shapeCast S63504x32 (transpose S16x63x63x32 [0, 2, 3, 1]
    (extractStridedSlice S16x32x63x63 ![0, 0, 0, 0] (shapeCast S16x32x64x64 x shapeCasts_S16x32x4096_S16x32x64x64)
      slices_S16x32x64x64_S16x32x63x63_0_0_0_0) transposes_S16x32x63x63_S16x63x63x32_0_2_3_1) shapeCasts_S16x63x63x32_S63504x32

/-- The cropped result at the row of tile `(i, j)` of image `b` is the array of results at the row of cell `(i, j)`. -/
theorem crop_at (x : FVec Ideal S16x32x4096 .f32) (r : Fin 63504) (o : Fin 32) :
    crop x (ix2 r o) = x (ix3 ⟨r.val / 3969, by omega⟩ o ⟨64 * (r.val / 63 % 63) + r.val % 63, by omega⟩) := by
  pointwise [crop]
  refine congrArg (fun n : Fin 4096 => x (ix3 ⟨r.val / 3969, _⟩ o n)) (Fin.ext ?_)
  show r.val / 63 % 63 * 64 + r.val % 63 = 64 * (r.val / 63 % 63) + r.val % 63
  omega

/-- What the host operations after the region leave in the result: the array of results, cropped. -/
theorem tail_eq : Pipeline.afterTail₀ cfgs (dats m) 0 (V0 m) [hostOps1] c main_v22 = crop (blocks m c) := by
  unfold Pipeline.afterTail₀
  simp only [hostOps1, List.flatten_cons, List.flatten_nil, List.append_nil]
  after_results
  refine congrArg crop ?_
  exact (Pipeline.withArrays_arr spec0 (by decide) c (V0 m c) (fun w => (dats m 0 c).arrAt w (cfgs 0).N) 5).trans (final m c)

/-- The kernel's result at a row and an output: the encoder's value for the tile of that row. -/
theorem result_at (r : Fin 63504) (o : Fin 32) :
    (show FVec Ideal S63504x32 .f32 from
        Pipeline.afterTail₀ cfgs (dats m) 0 (V0 m) [hostOps1] c main_v22) (ix2 r o)
      = Cert.Enc.enc (m ((c : Thread nD τ).loc main_arg0)) (m ((c : Thread nD τ).loc main_arg1))
          (m ((c : Thread nD τ).loc main_arg2)) (m ((c : Thread nD τ).loc main_arg3)) (m ((c : Thread nD τ).loc main_arg4))
          ⟨r.val / 3969, by omega⟩ ⟨r.val / 63 % 63, by omega⟩ ⟨r.val % 63, by omega⟩ o :=
  (congrFun (tail_eq m c) (ix2 r o)).trans ((crop_at _ r o).trans
    (blocks_at m c ⟨r.val / 3969, by omega⟩ ⟨r.val / 63 % 63, by omega⟩ ⟨r.val % 63, by omega⟩ o))

end Cert.KernelIdeal.Enc

end
-- ==== Proof.RefRead.lean ====
/- The reference's result read at an index: the tiles it gathers, then its two layers. -/
module

public import proofs.«01_k».proof.Proof.Gen.ReferenceIdeal.Read
public import proofs.«01_k».proof.Proof.Spec
public import Idealize.ShloMosaic.Lib.WordCmp
public import Idealize.ShloMosaic.Lib.Pipeline.ValueKit

@[expose] public section

set_option maxRecDepth 16384

noncomputable section

namespace Cert.ReferenceIdeal.Enc

open Idealize.ShloMosaic Idealize.ShloMosaic.TcCoe Idealize.SL.Sem
open Cert.ReferenceIdeal Cert.ReferenceIdeal.Gen Cert.ReferenceIdeal.Read

attribute [local instance] Cert.ReferenceIdeal.Gen.facts

/-- The word that counts pixel `q` of tile `p` along one axis of an image. -/
theorem count_at (i : S63x16.Idx) : val_main_v8 (F := Ideal) i = BitVec.ofNat 32 (8 * (i 0).val + (i 1).val) := by
  rw [val_main_v8_apply, val_main_v6_apply, val_main_v7_apply, val_main_v3_apply, val_main_v5_apply, val_main_v2_apply,
    val_main_v1_apply, val_main_c_apply, val_main_v0_apply, val_main_v4_apply]
  exact (congrArg (fun w => IntOp.addi w _) (WordCmp.muli_ofNat 8 (i 0).val)).trans (WordCmp.addi_ofNat _ _)

/-- Choosing between a word and the word with 512 added, by whether the word is negative, leaves a word that is not
    negative alone. -/
theorem wrap_of_small (n : Nat) (hn : n < 512) (w : BitVec 32) :
    Scalar.select (IntOp.cmpi .slt (BitVec.ofNat 32 n) 0#32) w (BitVec.ofNat 32 n) = BitVec.ofNat 32 n := by
  have h : IntOp.cmpi .slt (BitVec.ofNat 32 n) (BitVec.ofNat 32 0) = 0#1 :=
    (WordCmp.cmpi_slt_ofNat_eq_zero_iff (by omega) (by omega)).mpr (by omega)
  exact WordCmp.select_of_eq_zero h _ _

/-- The word that gives the image row of pixel row `u` of tile row `i`. -/
theorem row_at (y : S63x1x16x1.Idx) : val_main_v15 (F := Ideal) y = BitVec.ofNat 32 (8 * (y 0).val + (y 2).val) := by
  have h0 : (y 0).val < 63 := (y 0).isLt
  have h2 : (y 2).val < 16 := (y 2).isLt
  rw [val_main_v15_apply, val_main_v12_apply, val_main_v11_apply, val_main_c_0_apply, val_main_v9_apply, count_at]
  exact wrap_of_small _ (by show 8 * (y 0).val + (y 2).val < 512; omega) _

/-- The word that gives the image column of pixel column `v` of tile column `j`. -/
theorem col_at (y : S1x63x1x16.Idx) : val_main_v20 (F := Ideal) y = BitVec.ofNat 32 (8 * (y 1).val + (y 3).val) := by
  have h0 : (y 1).val < 63 := (y 1).isLt
  have h2 : (y 3).val < 16 := (y 3).isLt
  rw [val_main_v20_apply, val_main_v17_apply, val_main_v16_apply, val_main_c_2_apply, val_main_v10_apply, count_at]
  exact wrap_of_small _ (by show 8 * (y 1).val + (y 3).val < 512; omega) _

variable (i j : Fin 63) (u v : Fin 16)

/-- Three arrays joined along a last axis of size one each, read at component 1 of the join: the second of them. -/
theorem joined_one (p q r : IVec S63x63x16x16x1 32) :
    concatenate S63x63x16x16x3 4 [⟨S63x63x16x16x1, p⟩, ⟨S63x63x16x16x1, q⟩, ⟨S63x63x16x16x1, r⟩]
        concatenates_S63x63x16x16x1_S63x63x16x16x1_S63x63x16x16x1_S63x63x16x16x3_d4 (ix5 i j u v 1) = q (ix5 i j u v 0) :=
  concatenate_apply_piece (t := S63x63x16x16x3) 4 [⟨S63x63x16x16x1, p⟩, ⟨S63x63x16x16x1, q⟩, ⟨S63x63x16x16x1, r⟩] _ (ix5 i j u v 1) 1
    (show 1 < 3 by decide) S63x63x16x16x1 q rfl rfl 1 rfl (ix5 i j u v 0)
    (fun b hb => match b with | ⟨0, _⟩ => rfl | ⟨1, _⟩ => rfl | ⟨2, _⟩ => rfl | ⟨3, _⟩ => rfl | ⟨4, _⟩ => absurd rfl hb) rfl

/-- Three arrays joined along a last axis of size one each, read at component 2 of the join: the third of them. -/
theorem joined_two (p q r : IVec S63x63x16x16x1 32) :
    concatenate S63x63x16x16x3 4 [⟨S63x63x16x16x1, p⟩, ⟨S63x63x16x16x1, q⟩, ⟨S63x63x16x16x1, r⟩]
        concatenates_S63x63x16x16x1_S63x63x16x16x1_S63x63x16x16x1_S63x63x16x16x3_d4 (ix5 i j u v 2) = r (ix5 i j u v 0) :=
  concatenate_apply_piece (t := S63x63x16x16x3) 4 [⟨S63x63x16x16x1, p⟩, ⟨S63x63x16x16x1, q⟩, ⟨S63x63x16x16x1, r⟩] _ (ix5 i j u v 2) 2
    (show 2 < 3 by decide) S63x63x16x16x1 r rfl rfl 2 rfl (ix5 i j u v 0)
    (fun b hb => match b with | ⟨0, _⟩ => rfl | ⟨1, _⟩ => rfl | ⟨2, _⟩ => rfl | ⟨3, _⟩ => rfl | ⟨4, _⟩ => absurd rfl hb) rfl

/-- The second component of the start index of pixel `(u, v)` of tile `(i, j)`: the pixel's image row. -/
theorem start_row : val_main_v28 (F := Ideal) (ix5 i j u v 1) = BitVec.ofNat 32 (8 * i.val + u.val) := by
  unfold val_main_v28
  rw [joined_one, val_main_v26_apply, val_main_v22_apply, row_at]
  rfl

/-- The third component of the start index of pixel `(u, v)` of tile `(i, j)`: the pixel's image column. -/
theorem start_col : val_main_v28 (F := Ideal) (ix5 i j u v 2) = BitVec.ofNat 32 (8 * j.val + v.val) := by
  unfold val_main_v28
  rw [joined_two, val_main_v27_apply, val_main_v23_apply, col_at]
  rfl

/-- The dimension numbers of the reference's gather. -/
abbrev gd : GatherDims S16x1x512x512 S63x63x16x16x3 S16x63x63x16x16 :=
  gather_S16x1x512x512_S63x63x16x16x3_S16x63x63x16x16_0_123_n_n_123_4_16111

/-- The start-indices index of component `k` for result index `(b, i, j, u, v)` is `(i, j, u, v, k)`. -/
theorem component (b : Fin 16) (k : Fin 3) : gd.siIdx (ix5 b i j u v) k = ix5 i j u v k := by
  funext a
  refine Fin.ext ?_
  match a with
  | ⟨0, _⟩ => rfl
  | ⟨1, _⟩ => rfl
  | ⟨2, _⟩ => rfl
  | ⟨3, _⟩ => rfl
  | ⟨4, _⟩ => rfl

/-- The gathered tiles at `(b, i, j, u, v)`: image `b`'s pixel in row `8 i + u` and column `8 j + v`. -/
theorem tile_at (x : FVec Ideal S16x1x512x512 .f32) (b : Fin 16) :
    val_main_v29 (F := Ideal) x (ix5 b i j u v)
      = x (ix4 b 0 ⟨8 * i.val + u.val, by omega⟩ ⟨8 * j.val + v.val, by omega⟩) := by
  unfold val_main_v29 Host.gather
  refine congrArg x (funext fun a => Fin.ext ?_)
  show gd.start (ix5 b i j u v) (val_main_v28 (F := Ideal)) a + gd.batchCoord (ix5 b i j u v) a + gd.offCoord (ix5 b i j u v) a = _
  rw [GatherDims.batchCoord_eq_zero _ _ _ (by exact List.not_mem_nil)]
  match a with
  | ⟨0, _⟩ =>
    rw [show gd.start (ix5 b i j u v) (val_main_v28 (F := Ideal)) ⟨0, by decide⟩ = 0 from dif_neg (by decide)]
    show 0 + 0 + b.val = b.val
    omega
  | ⟨1, _⟩ =>
    rw [GatherDims.offCoord_eq_zero _ _ _ (show (⟨1, by decide⟩ : Fin S16x1x512x512.rank) ∉ gd.sKept by decide)]
    have h := gd.start_le (ix5 b i j u v) (val_main_v28 (F := Ideal)) (⟨1, by decide⟩ : Fin S16x1x512x512.rank)
    exact Nat.le_zero.mp h
  | ⟨2, _⟩ =>
    rw [GatherDims.offCoord_eq_zero _ _ _ (show (⟨2, by decide⟩ : Fin S16x1x512x512.rank) ∉ gd.sKept by decide)]
    show min (val_main_v28 (F := Ideal) (gd.siIdx (ix5 b i j u v) (1 : Fin 3))).toInt.toNat 511 + 0 + 0 = 8 * i.val + u.val
    rw [component, start_row, WordCmp.toInt_ofNat_of_lt (by omega)]
    omega
  | ⟨3, _⟩ =>
    rw [GatherDims.offCoord_eq_zero _ _ _ (show (⟨3, by decide⟩ : Fin S16x1x512x512.rank) ∉ gd.sKept by decide)]
    show min (val_main_v28 (F := Ideal) (gd.siIdx (ix5 b i j u v) (2 : Fin 3))).toInt.toNat 511 + 0 + 0 = 8 * j.val + v.val
    rw [component, start_col, WordCmp.toInt_ofNat_of_lt (by omega)]
    omega

/-- The matrix of tiles at row `r` and pixel `l`. -/
theorem tiles_at (x : FVec Ideal S16x1x512x512 .f32) (r : Fin 63504) (l : Fin 256) :
    val_main_v30 (F := Ideal) x (ix2 r l)
      = x (ix4 ⟨r.val / 3969, by omega⟩ 0 ⟨r.val / 63 % 63 * 8 + l.val / 16, by omega⟩ ⟨r.val % 63 * 8 + l.val % 16, by omega⟩) := by
  rw [val_main_v30_apply]
  refine (congrArg (val_main_v29 (F := Ideal) x) (show _ = ix5 (⟨r.val / 3969, by omega⟩ : Fin 16) (⟨r.val / 63 % 63, by omega⟩ : Fin 63)
    (⟨r.val % 63, by omega⟩ : Fin 63) (⟨l.val / 16, by omega⟩ : Fin 16) (⟨l.val % 16, by omega⟩ : Fin 16) from ?_)).trans
    ((tile_at _ _ _ _ x _).trans ?_)
  · funext a
    refine Fin.ext ?_
    match a with
    | ⟨0, _⟩ => show (r.val * 256 + l.val) / 1016064 = r.val / 3969; omega
    | ⟨1, _⟩ => show (r.val * 256 + l.val) / 16128 % 63 = r.val / 63 % 63; omega
    | ⟨2, _⟩ => show (r.val * 256 + l.val) / 256 % 63 = r.val % 63; omega
    | ⟨3, _⟩ => show (r.val * 256 + l.val) / 16 % 16 = l.val / 16; omega
    | ⟨4, _⟩ => show (r.val * 256 + l.val) % 16 = l.val % 16; omega
  · refine congrArg₂ (fun (p q : Fin 512) => x (ix4 _ 0 p q)) (Fin.ext ?_) (Fin.ext ?_)
    · show 8 * (r.val / 63 % 63) + l.val / 16 = r.val / 63 % 63 * 8 + l.val / 16
      omega
    · show 8 * (r.val % 63) + l.val % 16 = r.val % 63 * 8 + l.val % 16
      omega

/-- The reference's result at a row and an output: the encoder's value for the tile of that row. -/
theorem value_at (x0 : FVec Ideal S16x1x512x512 .f32) (x1 : FVec Ideal S256x64 .f32) (x2 : FVec Ideal S64 .f32)
    (x3 : FVec Ideal S64x32 .f32) (x4 : FVec Ideal S32 .f32) (r : Fin 63504) (o : Fin 32) :
    val_main_v39 (F := Ideal) x0 x1 x2 x3 x4 (ix2 r o)
      = Cert.Enc.enc x0 x1 x2 x3 x4 ⟨r.val / 3969, by omega⟩ ⟨r.val / 63 % 63, by omega⟩ ⟨r.val % 63, by omega⟩ o := by
  rw [val_main_v39_apply, val_main_v36_apply, val_main_v38_apply, val_main_v37_apply]
  unfold Cert.Enc.enc
  refine congrArg₂ (· + ·) (Finset.sum_congr rfl fun h _ => ?_) (congrArg x4 (eq_ix1 _))
  refine congrArg₂ (· * ·) ?_ (congrArg x3 (eq_ix2 _))
  rw [val_main_v35_apply, val_main_v34_apply, val_main_v31_apply, val_main_v33_apply, val_main_v32_apply,
    val_main_call0_v0_apply, val_main_call0_cst_apply]
  refine congrArg₂ max (congrArg₂ (· + ·) (Finset.sum_congr rfl fun l _ => ?_) (congrArg x2 (eq_ix1 _))) ?_
  · refine congrArg₂ (· * ·) ((congrArg (val_main_v30 (F := Ideal) x0) (eq_ix2 _)).trans (tiles_at x0 r l)) (congrArg x1 (eq_ix2 _))
  · exact Ideal.ofBits_zero_f32

end Cert.ReferenceIdeal.Enc

end
-- ==== Proof.lean ====
/- The certificate: the frames of the three programs, and the equality of kernel and reference over the extended reals. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Tail
public import proofs.«01_k».proof.Proof.RefRead
public import Idealize.ShloMosaic.Adequacy
public import Idealize.ShloMosaic.Init
public import Idealize.ShloMosaic.Lib.Claim
public import Idealize.ShloMosaic.Lib.Pipeline.ValueKit

@[expose] public section

set_option maxRecDepth 16384

noncomputable section

namespace Cert.Proof

open Idealize.ShloMosaic Idealize.SL.Sem

attribute [local instance] Cert.KernelIdeal.Gen.facts Cert.ReferenceIdeal.Gen.facts

/-- Reference and kernel, started from memories that agree on the arguments, leave the same result: at every row and
    output both hold the encoder's value for the tile of that row. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Cert.ReferenceIdeal.Value.res_main_v39 m' c
      = Pipeline.afterTail₀ Cert.KernelIdeal.cfgs (Cert.KernelIdeal.Gen.dats m) 0 (Cert.KernelIdeal.Gen.V0 m)
          [Cert.KernelIdeal.Gen.hostOps1] c Cert.KernelIdeal.main_v22 := by
  refine (Cert.ReferenceIdeal.Read.val_main_v39_eq m' c).trans ?_
  rw [h0, h1, h2, h3, h4]
  funext y
  refine (congrArg _ (eq_ix2 y)).trans (((Cert.ReferenceIdeal.Enc.value_at _ _ _ _ _ (y 0) (y 1)).trans
    (Cert.KernelIdeal.Enc.result_at m c (y 0) (y 1)).symm).trans (congrArg _ (eq_ix2 y).symm))

/-- The kernel and the reference, read over the extended reals, both run and leave equal results, element by element. -/
theorem algebraic : Cert.algebraic_KernelIdeal_ReferenceIdeal := by
  pair_intro
  · run_from Cert.KernelIdeal.Gen.run_main m g & Cert.KernelIdeal.Gen.unchanged m g
  · run_from Cert.ReferenceIdeal.Value.run m' g'
    exact same_result m m' c (hagree c).1 (hagree c).2.1 (hagree c).2.2.1 (hagree c).2.2.2.1 (hagree c).2.2.2.2

/-- The reference runs to the end and leaves its arguments as they were. -/
theorem frameRef : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- Everything claimed of the kernel and its reference. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frameRef, trivial, algebraic⟩

end Cert.Proof

end
